-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4608x18944 : Shape := ⟨2, ![4608, 18944]⟩
abbrev S18944x3584 : Shape := ⟨2, ![18944, 3584]⟩
abbrev S4608 : Shape := ⟨1, ![4608]⟩
abbrev S3584 : Shape := ⟨1, ![3584]⟩
abbrev S4608x1 : Shape := ⟨2, ![4608, 1]⟩
abbrev S4608x128 : Shape := ⟨2, ![4608, 128]⟩
abbrev S1x3584 : Shape := ⟨2, ![1, 3584]⟩
abbrev S4608x3584 : Shape := ⟨2, ![4608, 3584]⟩
abbrev S512x18944 : Shape := ⟨2, ![512, 18944]⟩
abbrev S18944x512 : Shape := ⟨2, ![18944, 512]⟩
abbrev S512x128 : Shape := ⟨2, ![512, 128]⟩
abbrev S1x512 : Shape := ⟨2, ![1, 512]⟩
abbrev S512x512 : Shape := ⟨2, ![512, 512]⟩
abbrev S1x128 : Shape := ⟨2, ![1, 128]⟩

abbrev nBuf : Space → Nat
  | .hbm => 8
  | .vmem => 10
  | .smem => 0
  | _ => 0

abbrev bufTy : (tb : Table) → Fin (tcTables nBuf tb) → BufTy
  | .hbm, ⟨0, _⟩ => ⟨S4608x18944, .fp8e4m3⟩
  | .hbm, ⟨1, _⟩ => ⟨S18944x3584, .fp8e4m3⟩
  | .hbm, ⟨2, _⟩ => ⟨S4608, .f32⟩
  | .hbm, ⟨3, _⟩ => ⟨S3584, .f32⟩
  | .hbm, ⟨4, _⟩ => ⟨S4608x1, .f32⟩
  | .hbm, ⟨5, _⟩ => ⟨S4608x128, .f32⟩
  | .hbm, ⟨6, _⟩ => ⟨S1x3584, .f32⟩
  | .hbm, ⟨7, _⟩ => ⟨S4608x3584, .bf16⟩
  | .local _ .vmem, ⟨0, _⟩ => ⟨S512x18944, .fp8e4m3⟩
  | .local _ .vmem, ⟨1, _⟩ => ⟨S512x18944, .fp8e4m3⟩
  | .local _ .vmem, ⟨2, _⟩ => ⟨S18944x512, .fp8e4m3⟩
  | .local _ .vmem, ⟨3, _⟩ => ⟨S18944x512, .fp8e4m3⟩
  | .local _ .vmem, ⟨4, _⟩ => ⟨S512x128, .f32⟩
  | .local _ .vmem, ⟨5, _⟩ => ⟨S512x128, .f32⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S512x512, .bf16⟩
  | _, _ => ⟨S4608x18944, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![9, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x18944 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S18944x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4608x18944 : Shape := ⟨2, ![4608, 18944]⟩
abbrev S18944x3584 : Shape := ⟨2, ![18944, 3584]⟩
abbrev S4608 : Shape := ⟨1, ![4608]⟩
abbrev S3584 : Shape := ⟨1, ![3584]⟩
abbrev S4608x1 : Shape := ⟨2, ![4608, 1]⟩
abbrev S1x3584 : Shape := ⟨2, ![1, 3584]⟩
abbrev S4608x3584 : Shape := ⟨2, ![4608, 3584]⟩

abbrev nBuf : Space → Nat
  | .hbm => 7
  | .vmem => 5
  | .smem => 0
  | _ => 0

abbrev bufTy : (tb : Table) → Fin (tcTables nBuf tb) → BufTy
  | .hbm, ⟨0, _⟩ => ⟨S4608x18944, .fp8e4m3⟩
  | .hbm, ⟨1, _⟩ => ⟨S18944x3584, .fp8e4m3⟩
  | .hbm, ⟨2, _⟩ => ⟨S4608, .f32⟩
  | .hbm, ⟨3, _⟩ => ⟨S3584, .f32⟩
  | .hbm, ⟨4, _⟩ => ⟨S4608x1, .f32⟩
  | .hbm, ⟨5, _⟩ => ⟨S1x3584, .f32⟩
  | .hbm, ⟨6, _⟩ => ⟨S4608x3584, .bf16⟩
  | .local _ .vmem, ⟨0, _⟩ => ⟨S4608x18944, .fp8e4m3⟩
  | .local _ .vmem, ⟨1, _⟩ => ⟨S18944x3584, .fp8e4m3⟩
  | .local _ .vmem, ⟨2, _⟩ => ⟨S4608x1, .f32⟩
  | .local _ .vmem, ⟨3, _⟩ => ⟨S1x3584, .f32⟩
  | .local _ .vmem, ⟨4, _⟩ => ⟨S4608x3584, .bf16⟩
  | _, _ => ⟨S4608x18944, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4608x18944 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18944x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4608x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4608x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Projection.lean ====
/-
  The projection over the extended reals: the array that the tiled kernel leaves and the array that the reference leaves are
  the same function `OUT` of the codes, the weight codes and the two scale vectors.
-/
module

public import proofs.«01_k».proof.Defs
public import proofs.«01_k».proof.Proof.Gen.KernelIdeal.Value
public import proofs.«01_k».proof.Proof.Gen.ReferenceIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Projection

/-- Row `i` of the codes times column `j` of the weight codes, times the scale of row `i`, times the scale of column `j`. -/
def OUT (X : FVec Ideal Cert.KernelIdeal.S4608x18944 .fp8e4m3) (W : FVec Ideal Cert.KernelIdeal.S18944x3584 .fp8e4m3)
    (s : FVec Ideal Cert.KernelIdeal.S4608 .f32) (u : FVec Ideal Cert.KernelIdeal.S3584 .f32) :
    FVec Ideal Cert.KernelIdeal.S4608x3584 .bf16 := fun j =>
  ((∑ k : Fin 18944, (X (ix2 (j 0) k) * W (ix2 k (j 1)) : EReal)) * (s (ix1 (j 0)) : EReal) * (u (ix1 (j 1)) : EReal) : EReal)

namespace Ker
open Cert.KernelIdeal Cert.KernelIdeal.Gen
variable (m : (ℓ : Loc nD τ sig) → Buf (Elt Ideal) ℓ)

/-- The block of each window at each grid point: the points go over the tiles row by row, seven tiles to a row. -/
theorem idx : ∀ t : Fin cfg0.N, win0_0.index t = ![t.val / 7, 0] ∧ win0_1.index t = ![0, t.val % 7]
    ∧ win0_2.index t = ![t.val / 7, 0] ∧ win0_3.index t = ![0, t.val % 7] ∧ win0_4.index t = ![t.val / 7, t.val % 7] :=
  (by decide +kernel : ∀ t : Fin grid0.N, _)

/-- What the body leaves at element `y` of the output tile is `OUT` at the element of the array where `y` lies. -/
theorem point (c : Dev nD) (t : Fin cfg0.N) (y : S512x512.Idx) :
    out0_4 (F := Ideal) (iblk m c 0 t) (iblk m c 1 t) (iblk m c 2 t) (iblk m c 3 t) y
      = OUT (m ((c : Thread nD τ).loc main_arg0)) (m ((c : Thread nD τ).loc main_arg1))
          (m ((c : Thread nD τ).loc main_arg2)) (m ((c : Thread nD τ).loc main_arg3))
          (((cfg0.win 4).blk t).view.emb y) := by
  unfold out0_4
  canon_tiles x h
  all_goals
    open_payloads
    pointwise [OUT, k0_pay1, k0_pay2]
    blk_point [iblk, V, idx t]

/-- The result array after the run. -/
theorem final (c : Dev nD) : (dats m 0 c).arrAt 4 (cfgs 0).N
    = OUT (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  exact point m c t y

end Ker

namespace Ref
open Cert.ReferenceIdeal Cert.ReferenceIdeal.Gen
variable (m : (ℓ : Loc nD τ sig) → Buf (Elt Ideal) ℓ)

/-- The one grid point has each whole array as its block. -/
theorem idx : ∀ t : Fin cfg0.N, win0_0.index t = ![0, 0] ∧ win0_1.index t = ![0, 0]
    ∧ win0_2.index t = ![0, 0] ∧ win0_3.index t = ![0, 0] ∧ win0_4.index t = ![0, 0] :=
  (by decide +kernel : ∀ t : Fin grid0.N, _)

/-- The result array after the run. -/
theorem final (c : Dev nD) : (dats m 0 c).arrAt 4 (cfgs 0).N
    = OUT (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  frame_out
  pointwise [OUT, k0_pay1]
  blk_point [iblk, V, idx t]

end Ref
end Cert.Projection

end
-- ==== Proof.lean ====
/-
  The proof of `Cert.Claim` (proof/Defs.lean): the frames of the tiled projection and of its reference, which are generated, and
  their equality over the extended reals, read off the two result arrays (proof/Proof/Projection.lean).
-/
module

public import proofs.«01_k».proof.Defs
public import proofs.«01_k».proof.Proof.Gen.Kernel.Frame
public import proofs.«01_k».proof.Proof.Projection

@[expose] public section

noncomputable section

namespace Cert.Proof

open Idealize.ShloMosaic Idealize.SL.Sem

/-- From equal arguments the tiled kernel and the reference end with equal results, over the extended reals. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.Projection.OUT (m ((c.tc : Thread _ _).loc Cert.KernelIdeal.main_arg0))
    (m ((c.tc : Thread _ _).loc Cert.KernelIdeal.main_arg1)) (m ((c.tc : Thread _ _).loc Cert.KernelIdeal.main_arg2))
    (m ((c.tc : Thread _ _).loc Cert.KernelIdeal.main_arg3)), ?_, ?_⟩
  · refine (θ_run (Cert.KernelIdeal.defs (F := Ideal)) _ _).mono (fun r h c => ?_) (Cert.KernelIdeal.Value.run_blocks (F := Ideal) m g)
    exact ⟨(h c).1.trans (Cert.Projection.Ker.final m c), (h c).2⟩
  · refine (θ_run (Cert.ReferenceIdeal.defs (F := Ideal)) _ _).mono (fun r h c => ?_) (Cert.ReferenceIdeal.Value.run_blocks (F := Ideal) m' g')
    obtain ⟨hv, hk⟩ := h c
    refine ⟨hv.trans ((Cert.Projection.Ref.final m' c).trans ?_), hk⟩
    rw [(hargs c).1, (hargs c).2.1, (hargs c).2.2.1, (hargs c).2.2.2]

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, algebraic⟩

end Cert.Proof

end
